-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x32 : Shape := ⟨3, ![16, 4096, 32]⟩
abbrev S64x32x8 : Shape := ⟨3, ![64, 32, 8]⟩
abbrev S64 : Shape := ⟨1, ![64]⟩
abbrev S64x8x32 : Shape := ⟨3, ![64, 8, 32]⟩
abbrev S64x256 : Shape := ⟨2, ![64, 256]⟩
abbrev S128x256 : Shape := ⟨2, ![128, 256]⟩
abbrev S128 : Shape := ⟨1, ![128]⟩
abbrev S128x1 : Shape := ⟨2, ![128, 1]⟩
abbrev S16x64x64 : Shape := ⟨3, ![16, 64, 64]⟩
abbrev S2x4096x32 : Shape := ⟨3, ![2, 4096, 32]⟩
abbrev S2x64x64 : Shape := ⟨3, ![2, 64, 64]⟩
abbrev S8192x32 : Shape := ⟨2, ![8192, 32]⟩
abbrev S32x8192 : Shape := ⟨2, ![32, 8192]⟩
abbrev S32x8191 : Shape := ⟨2, ![32, 8191]⟩
abbrev S32x1 : Shape := ⟨2, ![32, 1]⟩
abbrev S32x8190 : Shape := ⟨2, ![32, 8190]⟩
abbrev S32x2 : Shape := ⟨2, ![32, 2]⟩
abbrev S32x8189 : Shape := ⟨2, ![32, 8189]⟩
abbrev S32x3 : Shape := ⟨2, ![32, 3]⟩
abbrev S32x8188 : Shape := ⟨2, ![32, 8188]⟩
abbrev S32x4 : Shape := ⟨2, ![32, 4]⟩
abbrev S32x8187 : Shape := ⟨2, ![32, 8187]⟩
abbrev S32x5 : Shape := ⟨2, ![32, 5]⟩
abbrev S32x8186 : Shape := ⟨2, ![32, 8186]⟩
abbrev S32x6 : Shape := ⟨2, ![32, 6]⟩
abbrev S32x8185 : Shape := ⟨2, ![32, 8185]⟩
abbrev S32x7 : Shape := ⟨2, ![32, 7]⟩
abbrev S256x8192 : Shape := ⟨2, ![256, 8192]⟩
abbrev S128x8192 : Shape := ⟨2, ![128, 8192]⟩
abbrev S64x8192 : Shape := ⟨2, ![64, 8192]⟩
abbrev S8192x64 : Shape := ⟨2, ![8192, 64]⟩
abbrev S2x64x64x64 : Shape := ⟨4, ![2, 64, 64, 64]⟩

abbrev nBuf : Space → Nat
  | .hbm => 14
  | .vmem => 6
  | .smem => 0
  | _ => 0

abbrev bufTy : (tb : Table) → Fin (tcTables nBuf tb) → BufTy
  | .hbm, ⟨0, _⟩ => ⟨S16x4096x32, .f32⟩
  | .hbm, ⟨1, _⟩ => ⟨S64x32x8, .f32⟩
  | .hbm, ⟨2, _⟩ => ⟨S64, .f32⟩
  | .hbm, ⟨3, _⟩ => ⟨S64x32x8, .f32⟩
  | .hbm, ⟨4, _⟩ => ⟨S64, .f32⟩
  | .hbm, ⟨5, _⟩ => ⟨S64x8x32, .f32⟩
  | .hbm, ⟨6, _⟩ => ⟨S64x256, .f32⟩
  | .hbm, ⟨7, _⟩ => ⟨S64x8x32, .f32⟩
  | .hbm, ⟨8, _⟩ => ⟨S64x256, .f32⟩
  | .hbm, ⟨9, _⟩ => ⟨S128x256, .f32⟩
  | .hbm, ⟨10, _⟩ => ⟨S128x256, .bf16⟩
  | .hbm, ⟨11, _⟩ => ⟨S128, .f32⟩
  | .hbm, ⟨12, _⟩ => ⟨S128x1, .f32⟩
  | .hbm, ⟨13, _⟩ => ⟨S16x64x64, .f32⟩
  | .local _ .vmem, ⟨0, _⟩ => ⟨S2x4096x32, .f32⟩
  | .local _ .vmem, ⟨1, _⟩ => ⟨S2x4096x32, .f32⟩
  | .local _ .vmem, ⟨2, _⟩ => ⟨S128x256, .bf16⟩
  | .local _ .vmem, ⟨3, _⟩ => ⟨S128x1, .f32⟩
  | .local _ .vmem, ⟨4, _⟩ => ⟨S2x64x64, .f32⟩
  | .local _ .vmem, ⟨5, _⟩ => ⟨S2x64x64, .f32⟩
  | _, _ => ⟨S16x4096x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x4096x32 : Shape := ⟨3, ![16, 4096, 32]⟩
abbrev S64x32x8 : Shape := ⟨3, ![64, 32, 8]⟩
abbrev S64 : Shape := ⟨1, ![64]⟩
abbrev S1x1x64 : Shape := ⟨3, ![1, 1, 64]⟩
abbrev S16x2045x32 : Shape := ⟨3, ![16, 2045, 32]⟩
abbrev S64x32x1 : Shape := ⟨3, ![64, 32, 1]⟩
abbrev S64x32 : Shape := ⟨2, ![64, 32]⟩
abbrev S16x2045x64 : Shape := ⟨3, ![16, 2045, 64]⟩
abbrev S_ : Shape := ⟨0, ![]⟩
abbrev S2045 : Shape := ⟨1, ![2045]⟩
abbrev S1x2045 : Shape := ⟨2, ![1, 2045]⟩
abbrev S64x1 : Shape := ⟨2, ![64, 1]⟩
abbrev S64x2045 : Shape := ⟨2, ![64, 2045]⟩
abbrev S1x64x2045x1 : Shape := ⟨4, ![1, 64, 2045, 1]⟩
abbrev S16x1x2045x64 : Shape := ⟨4, ![16, 1, 2045, 64]⟩
abbrev S16x64x2045x64 : Shape := ⟨4, ![16, 64, 2045, 64]⟩
abbrev S16x64x64 : Shape := ⟨3, ![16, 64, 64]⟩

abbrev nBuf : Space → Nat
  | .hbm => 144
  | .vmem => 0
  | .smem => 0
  | _ => 0

abbrev hbmTy0_0 (i : Nat) : BufTy := match i % 128 with
  | 0 => ⟨S16x4096x32, .f32⟩
  | 1 => ⟨S64x32x8, .f32⟩
  | 2 => ⟨S64, .f32⟩
  | 3 => ⟨S64x32x8, .f32⟩
  | 4 => ⟨S64, .f32⟩
  | 5 => ⟨S1x1x64, .f32⟩
  | 6 => ⟨S16x2045x32, .f32⟩
  | 7 => ⟨S64x32x1, .f32⟩
  | 8 => ⟨S64x32, .f32⟩
  | 9 => ⟨S16x2045x64, .f32⟩
  | 10 => ⟨S16x2045x64, .f32⟩
  | 11 => ⟨S16x2045x64, .f32⟩
  | 12 => ⟨S16x2045x32, .f32⟩
  | 13 => ⟨S64x32x1, .f32⟩
  | 14 => ⟨S64x32, .f32⟩
  | 15 => ⟨S16x2045x64, .f32⟩
  | 16 => ⟨S16x2045x64, .f32⟩
  | 17 => ⟨S16x2045x32, .f32⟩
  | 18 => ⟨S64x32x1, .f32⟩
  | 19 => ⟨S64x32, .f32⟩
  | 20 => ⟨S16x2045x64, .f32⟩
  | 21 => ⟨S16x2045x64, .f32⟩
  | 22 => ⟨S16x2045x32, .f32⟩
  | 23 => ⟨S64x32x1, .f32⟩
  | 24 => ⟨S64x32, .f32⟩
  | 25 => ⟨S16x2045x64, .f32⟩
  | 26 => ⟨S16x2045x64, .f32⟩
  | 27 => ⟨S16x2045x32, .f32⟩
  | 28 => ⟨S64x32x1, .f32⟩
  | 29 => ⟨S64x32, .f32⟩
  | 30 => ⟨S16x2045x64, .f32⟩
  | 31 => ⟨S16x2045x64, .f32⟩
  | 32 => ⟨S16x2045x32, .f32⟩
  | 33 => ⟨S64x32x1, .f32⟩
  | 34 => ⟨S64x32, .f32⟩
  | 35 => ⟨S16x2045x64, .f32⟩
  | 36 => ⟨S16x2045x64, .f32⟩
  | 37 => ⟨S16x2045x32, .f32⟩
  | 38 => ⟨S64x32x1, .f32⟩
  | 39 => ⟨S64x32, .f32⟩
  | 40 => ⟨S16x2045x64, .f32⟩
  | 41 => ⟨S16x2045x64, .f32⟩
  | 42 => ⟨S16x2045x32, .f32⟩
  | 43 => ⟨S64x32x1, .f32⟩
  | 44 => ⟨S64x32, .f32⟩
  | 45 => ⟨S16x2045x64, .f32⟩
  | 46 => ⟨S16x2045x64, .f32⟩
  | 47 => ⟨S1x1x64, .f32⟩
  | 48 => ⟨S16x2045x32, .f32⟩
  | 49 => ⟨S64x32x1, .f32⟩
  | 50 => ⟨S64x32, .f32⟩
  | 51 => ⟨S16x2045x64, .f32⟩
  | 52 => ⟨S16x2045x64, .f32⟩
  | 53 => ⟨S16x2045x64, .f32⟩
  | 54 => ⟨S16x2045x32, .f32⟩
  | 55 => ⟨S64x32x1, .f32⟩
  | 56 => ⟨S64x32, .f32⟩
  | 57 => ⟨S16x2045x64, .f32⟩
  | 58 => ⟨S16x2045x64, .f32⟩
  | 59 => ⟨S16x2045x32, .f32⟩
  | 60 => ⟨S64x32x1, .f32⟩
  | 61 => ⟨S64x32, .f32⟩
  | 62 => ⟨S16x2045x64, .f32⟩
  | 63 => ⟨S16x2045x64, .f32⟩
  | 64 => ⟨S16x2045x32, .f32⟩
  | 65 => ⟨S64x32x1, .f32⟩
  | 66 => ⟨S64x32, .f32⟩
  | 67 => ⟨S16x2045x64, .f32⟩
  | 68 => ⟨S16x2045x64, .f32⟩
  | 69 => ⟨S16x2045x32, .f32⟩
  | 70 => ⟨S64x32x1, .f32⟩
  | 71 => ⟨S64x32, .f32⟩
  | 72 => ⟨S16x2045x64, .f32⟩
  | 73 => ⟨S16x2045x64, .f32⟩
  | 74 => ⟨S16x2045x32, .f32⟩
  | 75 => ⟨S64x32x1, .f32⟩
  | 76 => ⟨S64x32, .f32⟩
  | 77 => ⟨S16x2045x64, .f32⟩
  | 78 => ⟨S16x2045x64, .f32⟩
  | 79 => ⟨S16x2045x32, .f32⟩
  | 80 => ⟨S64x32x1, .f32⟩
  | 81 => ⟨S64x32, .f32⟩
  | 82 => ⟨S16x2045x64, .f32⟩
  | 83 => ⟨S16x2045x64, .f32⟩
  | 84 => ⟨S16x2045x32, .f32⟩
  | 85 => ⟨S64x32x1, .f32⟩
  | 86 => ⟨S64x32, .f32⟩
  | 87 => ⟨S16x2045x64, .f32⟩
  | 88 => ⟨S16x2045x64, .f32⟩
  | 89 => ⟨S16x2045x64, .f32⟩
  | 90 => ⟨S16x2045x64, .f32⟩
  | 91 => ⟨S_, .f32⟩
  | 92 => ⟨S16x2045x64, .f32⟩
  | 93 => ⟨S16x2045x64, .f32⟩
  | 94 => ⟨S_, .f32⟩
  | 95 => ⟨S16x2045x64, .f32⟩
  | 96 => ⟨S16x2045x64, .f32⟩
  | 97 => ⟨S16x2045x64, .f32⟩
  | 98 => ⟨S2045, .i32⟩
  | 99 => ⟨S_, .i32⟩
  | 100 => ⟨S2045, .i32⟩
  | 101 => ⟨S2045, .i32⟩
  | 102 => ⟨S_, .i32⟩
  | 103 => ⟨S_, .i32⟩
  | 104 => ⟨S2045, .i32⟩
  | 105 => ⟨S2045, .i32⟩
  | 106 => ⟨S2045, .i32⟩
  | 107 => ⟨S_, .i32⟩
  | 108 => ⟨S2045, .i32⟩
  | 109 => ⟨S2045, .i1⟩
  | 110 => ⟨S2045, .i32⟩
  | 111 => ⟨S2045, .i32⟩
  | 112 => ⟨S_, .i32⟩
  | 113 => ⟨S2045, .i32⟩
  | 114 => ⟨S2045, .i1⟩
  | 115 => ⟨S2045, .i1⟩
  | 116 => ⟨S_, .i32⟩
  | 117 => ⟨S2045, .i32⟩
  | 118 => ⟨S2045, .i32⟩
  | 119 => ⟨S2045, .i32⟩
  | 120 => ⟨S_, .i32⟩
  | 121 => ⟨S_, .i32⟩
  | 122 => ⟨S_, .i32⟩
  | 123 => ⟨S2045, .i32⟩
  | 124 => ⟨S2045, .i32⟩
  | 125 => ⟨S_, .i32⟩
  | 126 => ⟨S2045, .i32⟩
  | 127 => ⟨S2045, .i32⟩
  | _ => ⟨S16x4096x32, .f32⟩

abbrev hbmTy0_1 (i : Nat) : BufTy := match i % 128 with
  | 0 => ⟨S1x2045, .i32⟩
  | 1 => ⟨S64, .i32⟩
  | 2 => ⟨S64x1, .i32⟩
  | 3 => ⟨S64x2045, .i32⟩
  | 4 => ⟨S64x2045, .i32⟩
  | 5 => ⟨S64x2045, .i1⟩
  | 6 => ⟨S1x64x2045x1, .i1⟩
  | 7 => ⟨S16x1x2045x64, .f32⟩
  | 8 => ⟨S_, .f32⟩
  | 9 => ⟨S_, .f32⟩
  | 10 => ⟨S16x64x2045x64, .i1⟩
  | 11 => ⟨S16x64x2045x64, .f32⟩
  | 12 => ⟨S16x64x2045x64, .f32⟩
  | 13 => ⟨S16x64x2045x64, .f32⟩
  | 14 => ⟨S_, .f32⟩
  | 15 => ⟨S16x64x64, .f32⟩
  | _ => ⟨S16x4096x32, .f32⟩

abbrev hbmTy (i : Nat) : BufTy := match i / 128 with
  | 0 => hbmTy0_0 i
  | 1 => hbmTy0_1 i
  | _ => ⟨S16x4096x32, .f32⟩

abbrev bufTy : (tb : Table) → Fin (tcTables nBuf tb) → BufTy
  | .hbm, ⟨i, _⟩ => hbmTy i
  | _, _ => ⟨S16x4096x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_cst : Ref sig .tc := ⟨.hbm, 91, rfl⟩
abbrev main_v86 : Ref sig .tc := ⟨.hbm, 92, rfl⟩
abbrev main_v87 : Ref sig .tc := ⟨.hbm, 93, rfl⟩
abbrev main_cst_0 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_c : Ref sig .tc := ⟨.hbm, 99, rfl⟩
abbrev main_v92 : Ref sig .tc := ⟨.hbm, 100, rfl⟩
abbrev main_v93 : Ref sig .tc := ⟨.hbm, 101, rfl⟩
abbrev main_c_1 : Ref sig .tc := ⟨.hbm, 102, rfl⟩
abbrev main_call0_v0 : Ref sig .tc := ⟨.hbm, 103, rfl⟩
abbrev main_call0_v1 : Ref sig .tc := ⟨.hbm, 104, rfl⟩
abbrev main_call0_v2 : Ref sig .tc := ⟨.hbm, 105, rfl⟩
abbrev main_call0_v3 : Ref sig .tc := ⟨.hbm, 106, rfl⟩
abbrev main_call0_v4 : Ref sig .tc := ⟨.hbm, 107, rfl⟩
abbrev main_call0_v5 : Ref sig .tc := ⟨.hbm, 108, rfl⟩
abbrev main_call0_v6 : Ref sig .tc := ⟨.hbm, 109, rfl⟩
abbrev main_call0_v7 : Ref sig .tc := ⟨.hbm, 110, rfl⟩
abbrev main_call0_v8 : Ref sig .tc := ⟨.hbm, 111, rfl⟩
abbrev main_call0_c : Ref sig .tc := ⟨.hbm, 112, rfl⟩
abbrev main_call0_v9 : Ref sig .tc := ⟨.hbm, 113, rfl⟩
abbrev main_call0_v10 : Ref sig .tc := ⟨.hbm, 114, rfl⟩
abbrev main_call0_v11 : Ref sig .tc := ⟨.hbm, 115, rfl⟩
abbrev main_call0_c_0 : Ref sig .tc := ⟨.hbm, 116, rfl⟩
abbrev main_call0_v12 : Ref sig .tc := ⟨.hbm, 117, rfl⟩
abbrev main_call0_v13 : Ref sig .tc := ⟨.hbm, 118, rfl⟩
abbrev main_v94 : Ref sig .tc := ⟨.hbm, 119, rfl⟩
abbrev main_c_2 : Ref sig .tc := ⟨.hbm, 120, rfl⟩
abbrev main_c_3 : Ref sig .tc := ⟨.hbm, 121, rfl⟩
abbrev main_call1_v0 : Ref sig .tc := ⟨.hbm, 122, rfl⟩
abbrev main_call1_v1 : Ref sig .tc := ⟨.hbm, 123, rfl⟩
abbrev main_call1_v2 : Ref sig .tc := ⟨.hbm, 124, rfl⟩
abbrev main_call1_v3 : Ref sig .tc := ⟨.hbm, 125, rfl⟩
abbrev main_call1_v4 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_cst_4 : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_call2_v3 : Ref sig .tc := ⟨.hbm, 140, rfl⟩
abbrev main_v104 : Ref sig .tc := ⟨.hbm, 141, rfl⟩
abbrev main_cst_5 : Ref sig .tc := ⟨.hbm, 142, rfl⟩
abbrev main_v105 : Ref sig .tc := ⟨.hbm, 143, rfl⟩

abbrev nD : Nat := 1
abbrev τ : Topo := Topo.v7x

variable {F : FTy → Type} [FloatOps F]
-- ==== Proof.Spec.lean ====
module

public import Idealize.ShloMosaic.PureOps.Ideal
public import Idealize.ShloMosaic.Lib.Pointwise

@[expose] public section

noncomputable section

/-! The mathematics both programs compute, over the extended reals: two strided convolutions, their gated product,
and its maximum over the positions of every patch. -/

namespace Cert.Spec

open Idealize.ShloMosaic

/-- The samples: sequence, position, channel. -/
abbrev Samples := Vec Ideal ⟨3, ![16, 4096, 32]⟩ .f32
/-- A convolution's weights: output channel, input channel, tap. -/
abbrev Weights := Vec Ideal ⟨3, ![64, 32, 8]⟩ .f32
/-- A convolution's biases, one for every output channel. -/
abbrev Bias := Vec Ideal ⟨1, ![64]⟩ .f32

/-- The convolution of sequence `i` at the window that starts at `t`, output channel `e`: the sum over the eight taps
    and the 32 channels, and the bias. -/
def conv (x : Samples) (W : Weights) (b : Bias) (i : Fin 16) (e : Fin 64) (t : ℕ) (ht : t + 8 ≤ 4096) : EReal :=
  (∑ k : Fin 8, ∑ c : Fin 32, W (ix3 e c k) * x (ix3 i ⟨t + k, by omega⟩ c)) + b (ix1 e)

/-- The gated product at the window that starts at `t`. -/
def gated (x : Samples) (W1 : Weights) (b1 : Bias) (W2 : Weights) (b2 : Bias) (i : Fin 16) (e : Fin 64) (t : ℕ)
    (ht : t + 8 ≤ 4096) : EReal :=
  conv x W1 b1 i e t ht * Ideal.logistic (conv x W2 b2 i e t ht)

/-- The maximum of `g` over the windows of patch `n`: those that start at an even `t` between `64 n` and `64 n + 63`
    and end within the sequence. -/
def patchMax (g : (t : ℕ) → t + 8 ≤ 4096 → EReal) (n : Fin 64) : EReal :=
  Finset.univ.sup fun s : Fin 32 =>
    if h : n.val * 64 + 2 * s.val + 8 ≤ 4096 then g (n.val * 64 + 2 * s.val) h else ⊥

/-- The result: the gated product's maximum over every patch. -/
def pooled (x : Samples) (W1 : Weights) (b1 : Bias) (W2 : Weights) (b2 : Bias) (i : Fin 16) (n e : Fin 64) : EReal :=
  patchMax (gated x W1 b1 W2 b2 i e) n

/-- Two windows that start at the same place have the same value. -/
theorem start_congr (g : (t : ℕ) → t + 8 ≤ 4096 → EReal) {t u : ℕ} (h : t = u) (ht : t + 8 ≤ 4096) :
    g t ht = g u (h ▸ ht) := by
  subst h; rfl

/-- The maximum over all 2045 windows, those outside the patch masked out, is the maximum over the patch. -/
theorem sup_windows (g : (t : ℕ) → t + 8 ≤ 4096 → EReal) (n : Fin 64) :
    (Finset.univ.sup fun l : Fin 2045 => if l.val / 32 = n.val then g (2 * l.val) (by omega) else ⊥) = patchMax g n := by
  refine le_antisymm (Finset.sup_le fun l _ => ?_) (Finset.sup_le fun s _ => ?_)
  · split_ifs with h
    · refine le_trans (le_of_eq ?_) (Finset.le_sup (Finset.mem_univ (⟨l.val % 32, by omega⟩ : Fin 32)))
      have ht : 2 * l.val = n.val * 64 + 2 * (l.val % 32) := by omega
      rw [dif_pos (show n.val * 64 + 2 * (l.val % 32) + 8 ≤ 4096 by omega)]
      exact start_congr g ht _
    · exact bot_le
  · split_ifs with h
    · refine le_trans (le_of_eq ?_) (Finset.le_sup (Finset.mem_univ (⟨n.val * 32 + s.val, by omega⟩ : Fin 2045)))
      rw [if_pos (show (n.val * 32 + s.val) / 32 = n.val by omega)]
      exact start_congr g (by dsimp only; omega) _
    · exact bot_le

/-- The maximum over the 64 starts of a patch, the odd ones and those whose window would overrun the sequence masked
    out, is the maximum over the patch. -/
theorem sup_starts (g : (t : ℕ) → t + 8 ≤ 4096 → EReal) (n : Fin 64) :
    (Finset.univ.sup fun s : Fin 64 =>
      if h : s.val % 2 = 0 ∧ n.val * 64 + s.val < 4090 then g (n.val * 64 + s.val) (by omega) else ⊥) = patchMax g n := by
  refine le_antisymm (Finset.sup_le fun s _ => ?_) (Finset.sup_le fun s _ => ?_)
  · split_ifs with h
    · refine le_trans (le_of_eq ?_) (Finset.le_sup (Finset.mem_univ (⟨s.val / 2, by omega⟩ : Fin 32)))
      have ht : n.val * 64 + s.val = n.val * 64 + 2 * (s.val / 2) := by omega
      rw [dif_pos (show n.val * 64 + 2 * (s.val / 2) + 8 ≤ 4096 by omega)]
      exact start_congr g ht _
    · exact bot_le
  · split_ifs with h
    · refine le_trans (le_of_eq ?_) (Finset.le_sup (Finset.mem_univ (⟨2 * s.val, by omega⟩ : Fin 64)))
      rw [dif_pos (show 2 * s.val % 2 = 0 ∧ n.val * 64 + 2 * s.val < 4090 by omega)]
    · exact bot_le

end Cert.Spec

end
-- ==== Proof.Body.lean ====
module

public import proofs.«01_k».proof.Proof.Gen.KernelIdeal.Skeleton
public import proofs.«01_k».proof.Proof.Spec
public import Idealize.ShloMosaic.Lib.Pointwise

@[expose] public section

set_option maxRecDepth 16384

noncomputable section

/-! What the kernel's body computes for one block of two sequences, at an index. -/

namespace Cert.KernelIdeal.Body

open Idealize.ShloMosaic Idealize.SL.Sem Cert.KernelIdeal Cert.KernelIdeal.Gen

/-- One row of the product of the stacked weights with the unrolled windows, and its bias: row `o` of the weights, the
    window of sequence `q` of the block that starts at `t`; entry `r` of a window is tap `r / 32`, channel `r % 32`. -/
def row (x : Vec Ideal S2x4096x32 .f32) (w : Vec Ideal S128x256 .bf16) (b : Vec Ideal S128x1 .f32) (o : Fin 128) (q : Fin 2)
    (t : ℕ) (ht : t + 8 ≤ 4096) : EReal :=
  (∑ r : Fin 256, w (ix2 o r) * x (ix3 q ⟨t + r / 32, by omega⟩ ⟨r % 32, by omega⟩)) + b (ix2 o 0)

/-- Equal coordinates name the same sample. -/
theorem sample_congr (x : Vec Ideal S2x4096x32 .f32) {a a' : Fin 2} {t t' : Fin 4096} {c c' : Fin 32} (ha : a.val = a'.val)
    (ht : t.val = t'.val) (hc : c.val = c'.val) : x (ix3 a t c) = x (ix3 a' t' c') := by
  rw [Fin.ext ha, Fin.ext ht, Fin.ext hc]

set_option maxHeartbeats 3200000 in
/-- The gated product at a position whose window lies within its sequence: the rotated copies of the samples hold the
    window's entries there. -/
theorem gated_at (x : Vec Ideal S2x4096x32 .f32) (w : Vec Ideal S128x256 .bf16) (b : Vec Ideal S128x1 .f32)
    (e : Fin 64) (p : Fin 8192) (q : Fin 2) (t : ℕ) (ht : t + 8 ≤ 4096) (hp : p.val = q * 4096 + t) :
    k0_pay2 (F := Ideal) x w b (ix2 e p) =
      row x w b ⟨e, by omega⟩ q t ht * Ideal.logistic (row x w b ⟨64 + e, by omega⟩ q t ht) := by
  unfold row
  pointwise [k0_pay2]
  refine congrArg₂ (fun u v => (u + b (ix2 ⟨e, by omega⟩ 0)) * Ideal.logistic (v + b (ix2 ⟨64 + e, by omega⟩ 0)))
    (Finset.sum_congr rfl fun r _ => congrArg (w (ix2 ⟨e, by omega⟩ r) * ·) ?_)
    (Finset.sum_congr rfl fun r _ => congrArg (w (ix2 ⟨64 + e, by omega⟩ r) * ·) ?_)
  all_goals
    split_ifs <;> first | (exfalso; omega) | exact sample_congr x (by dsimp only; omega) (by dsimp only; omega) (by dsimp only; omega)

/-- A row is a convolution, once the block's sequence, the row of the weights and the bias are those of the convolution. -/
theorem row_eq (x : Vec Ideal S2x4096x32 .f32) (w : Vec Ideal S128x256 .bf16) (b : Vec Ideal S128x1 .f32) (o : Fin 128)
    (q : Fin 2) (X : Cert.Spec.Samples) (W : Cert.Spec.Weights) (B : Cert.Spec.Bias) (i : Fin 16) (e : Fin 64)
    (hx : ∀ t c, x (ix3 q t c) = X (ix3 i t c))
    (hw : ∀ (k : Fin 8) (c : Fin 32), w (ix2 o ⟨k * 32 + c, by omega⟩) = W (ix3 e c k))
    (hb : b (ix2 o 0) = B (ix1 e)) (t : ℕ) (ht : t + 8 ≤ 4096) :
    row x w b o q t ht = Cert.Spec.conv X W B i e t ht := by
  unfold row Cert.Spec.conv
  rw [hb, Fin.sum_univ_tiles 8 32 rfl]
  refine congrArg (· + B (ix1 e)) (Finset.sum_congr rfl fun k _ => Finset.sum_congr rfl fun c _ => ?_)
  rw [hw, ← hx]
  exact congrArg (W (ix3 e c k) * ·) (sample_congr x rfl (by dsimp only; omega) (by dsimp only; omega))

end Cert.KernelIdeal.Body

end
-- ==== Proof.Patch.lean ====
module

public import proofs.«01_k».proof.Proof.Gen.KernelIdeal.Skeleton
public import proofs.«01_k».proof.Proof.Spec
public import Idealize.ShloMosaic.Lib.Pointwise

@[expose] public section

set_option maxRecDepth 16384

noncomputable section

/-! How the kernel's body takes the maximum over every patch of a block. -/

namespace Cert.KernelIdeal.Patch

open Idealize.ShloMosaic Idealize.SL.Sem Cert.KernelIdeal Cert.KernelIdeal.Gen

/-- The divisor, unless it is zero. -/
def divisor (d : BitVec 32) : BitVec 32 := Scalar.select (Scalar.cmpi .eq d 0#32) 1#32 d

/-- The remainder of the position `p` by `d`, as the body computes it: with the divisor's sign. -/
def remainder (p d : BitVec 32) : BitVec 32 :=
  Scalar.select
    (IntOp.andi
      (IntOp.xori (IntOp.cmpi .slt (IntOp.remsi ArithUnit.vector p (divisor d)) 0#32) (Scalar.cmpi .slt (divisor d) 0#32))
      (IntOp.cmpi .ne (IntOp.remsi ArithUnit.vector p (divisor d)) 0#32))
    (IntOp.addi (IntOp.remsi ArithUnit.vector p (divisor d)) (divisor d))
    (IntOp.remsi ArithUnit.vector p (divisor d))

/-- The mask keeps the even positions whose offset in their sequence is below 4090. -/
theorem mask (p : Fin 8192) :
    IntOp.andi (IntOp.cmpi .eq (remainder (BitVec.ofNat 32 p) 2#32) 0#32)
      (IntOp.cmpi .slt (remainder (BitVec.ofNat 32 p) 4096#32) 4090#32) =
    BitVec.ofBool (p.val % 2 = 0 ∧ p.val % 4096 < 4090) := by
  revert p
  decide +kernel

/-- A value chosen by a truth value. -/
theorem select_ofBool (c : Bool) (u v : EReal) : Scalar.select (BitVec.ofBool c) u v = if c then u else v := by
  cases c <;> simp [Scalar.select]

set_option maxHeartbeats 1600000 in
/-- The maximum over a patch: over its 64 positions, the masked ones at minus infinity. -/
theorem patch_at (z : FVec Ideal S64x8192 .f32) (q : Fin 2) (n e : Fin 64) :
    k0_pay1 (F := Ideal) z (iota .tc S64x8192 32 [1] iota_S64x8192_d1_w32)
      (Scalar.select (Scalar.cmpi .eq 2#32 0#32) 1#32 2#32) k0_pay3 k0_pay4 k0_pay5 (ix3 q n e) =
    Finset.univ.sup fun s : Fin 64 => if s.val % 2 = 0 ∧ n.val * 64 + s.val < 4090 then
      z (ix2 e ⟨q.val * 4096 + n.val * 64 + s.val, by omega⟩) else ⊥ := by
  pointwise [k0_pay1, k0_pay3, k0_pay4, k0_pay5]
  rw [show Ideal.ofBits FTy.f32 4286578688#32 = ⊥ from by simp [Ideal.ofBits, Ideal.ieee]]
  refine Finset.sup_congr rfl fun s _ => ?_
  refine (congrArg (fun c => Scalar.select c _ (⊥ : EReal)) (mask ⟨q.val * 4096 + n.val * 64 + s.val, by omega⟩)).trans ?_
  rw [select_ofBool]
  have h : ((q.val * 4096 + n.val * 64 + s.val) % 2 = 0 ∧ (q.val * 4096 + n.val * 64 + s.val) % 4096 < 4090) ↔
      (s.val % 2 = 0 ∧ n.val * 64 + s.val < 4090) := by omega
  simp only [decide_eq_true_eq, h]

end Cert.KernelIdeal.Patch

end
-- ==== Proof.RefOps.lean ====
module

public import proofs.«01_k».proof.Proof.Gen.ReferenceIdeal
public import Idealize.ShloMosaic.Lib.StableHlo.Run

@[expose] public section

noncomputable section

/-! The reference's host operations, in order, cut into four lines: the first convolution, the second convolution,
the gate with the patch numbers, and the masked maximum. -/

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The first convolution, tap after tap, from the bias on. -/
abbrev opsFirst : List (HloOp τ sig (Elt F)) :=
  [ unary main_arg2 main_v0 (broadcastInDim S1x1x64 ![2] bcast_S64_S1x1x64_2 : (⟨S64, .f32⟩ : BufTy).Contents (Elt F) → (⟨S1x1x64, .f32⟩ : BufTy).Contents (Elt F)),
    unary main_arg0 main_v1 ((Host.slice S16x2045x32 ![0, 0, 0] ![1, 2, 1] · slicesBy_S16x4096x32_S16x2045x32_0s1_0s2_0s1) : (⟨S16x4096x32, .f32⟩ : BufTy).Contents (Elt F) → (⟨S16x2045x32, .f32⟩ : BufTy).Contents (Elt F)),
    unary main_arg1 main_v2 ((extractStridedSlice S64x32x1 ![0, 0, 0] · slices_S64x32x8_S64x32x1_0_0_0) : (⟨S64x32x8, .f32⟩ : BufTy).Contents (Elt F) → (⟨S64x32x1, .f32⟩ : BufTy).Contents (Elt F)),
    reshape main_v2 main_v3 (rfl : (.f32 : EltTy) = .f32) shapeCasts_S64x32x1_S64x32,
    binary main_v1 main_v3 main_v4 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    unary main_v0 main_v5 (broadcastInDim S16x2045x64 ![0, 1, 2] bcast_S1x1x64_S16x2045x64_0_1_2 : (⟨S1x1x64, .f32⟩ : BufTy).Contents (Elt F) → (⟨S16x2045x64, .f32⟩ : BufTy).Contents (Elt F)),
    binary main_v5 main_v4 main_v6 (addf : (⟨S16x2045x64, .f32⟩ : BufTy).Contents (Elt F) → (⟨S16x2045x64, .f32⟩ : BufTy).Contents (Elt F) → (⟨S16x2045x64, .f32⟩ : BufTy).Contents (Elt F)),
    unary main_arg0 main_v7 ((Host.slice S16x2045x32 ![0, 1, 0] ![1, 2, 1] · slicesBy_S16x4096x32_S16x2045x32_0s1_1s2_0s1) : (⟨S16x4096x32, .f32⟩ : BufTy).Contents (Elt F) → (⟨S16x2045x32, .f32⟩ : BufTy).Contents (Elt F)),
    unary main_arg1 main_v8 ((extractStridedSlice S64x32x1 ![0, 0, 1] · slices_S64x32x8_S64x32x1_0_0_1) : (⟨S64x32x8, .f32⟩ : BufTy).Contents (Elt F) → (⟨S64x32x1, .f32⟩ : BufTy).Contents (Elt F)),
    reshape main_v8 main_v9 (rfl : (.f32 : EltTy) = .f32) shapeCasts_S64x32x1_S64x32,
    binary main_v7 main_v9 main_v10 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v6 main_v10 main_v11 (addf : (⟨S16x2045x64, .f32⟩ : BufTy).Contents (Elt F) → (⟨S16x2045x64, .f32⟩ : BufTy).Contents (Elt F) → (⟨S16x2045x64, .f32⟩ : BufTy).Contents (Elt F)),
    unary main_arg0 main_v12 ((Host.slice S16x2045x32 ![0, 2, 0] ![1, 2, 1] · slicesBy_S16x4096x32_S16x2045x32_0s1_2s2_0s1) : (⟨S16x4096x32, .f32⟩ : BufTy).Contents (Elt F) → (⟨S16x2045x32, .f32⟩ : BufTy).Contents (Elt F)),
    unary main_arg1 main_v13 ((extractStridedSlice S64x32x1 ![0, 0, 2] · slices_S64x32x8_S64x32x1_0_0_2) : (⟨S64x32x8, .f32⟩ : BufTy).Contents (Elt F) → (⟨S64x32x1, .f32⟩ : BufTy).Contents (Elt F)),
    reshape main_v13 main_v14 (rfl : (.f32 : EltTy) = .f32) shapeCasts_S64x32x1_S64x32,
    binary main_v12 main_v14 main_v15 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v11 main_v15 main_v16 (addf : (⟨S16x2045x64, .f32⟩ : BufTy).Contents (Elt F) → (⟨S16x2045x64, .f32⟩ : BufTy).Contents (Elt F) → (⟨S16x2045x64, .f32⟩ : BufTy).Contents (Elt F)),
    unary main_arg0 main_v17 ((Host.slice S16x2045x32 ![0, 3, 0] ![1, 2, 1] · slicesBy_S16x4096x32_S16x2045x32_0s1_3s2_0s1) : (⟨S16x4096x32, .f32⟩ : BufTy).Contents (Elt F) → (⟨S16x2045x32, .f32⟩ : BufTy).Contents (Elt F)),
    unary main_arg1 main_v18 ((extractStridedSlice S64x32x1 ![0, 0, 3] · slices_S64x32x8_S64x32x1_0_0_3) : (⟨S64x32x8, .f32⟩ : BufTy).Contents (Elt F) → (⟨S64x32x1, .f32⟩ : BufTy).Contents (Elt F)),
    reshape main_v18 main_v19 (rfl : (.f32 : EltTy) = .f32) shapeCasts_S64x32x1_S64x32,
    binary main_v17 main_v19 main_v20 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v16 main_v20 main_v21 (addf : (⟨S16x2045x64, .f32⟩ : BufTy).Contents (Elt F) → (⟨S16x2045x64, .f32⟩ : BufTy).Contents (Elt F) → (⟨S16x2045x64, .f32⟩ : BufTy).Contents (Elt F)),
    unary main_arg0 main_v22 ((Host.slice S16x2045x32 ![0, 4, 0] ![1, 2, 1] · slicesBy_S16x4096x32_S16x2045x32_0s1_4s2_0s1) : (⟨S16x4096x32, .f32⟩ : BufTy).Contents (Elt F) → (⟨S16x2045x32, .f32⟩ : BufTy).Contents (Elt F)),
    unary main_arg1 main_v23 ((extractStridedSlice S64x32x1 ![0, 0, 4] · slices_S64x32x8_S64x32x1_0_0_4) : (⟨S64x32x8, .f32⟩ : BufTy).Contents (Elt F) → (⟨S64x32x1, .f32⟩ : BufTy).Contents (Elt F)),
    reshape main_v23 main_v24 (rfl : (.f32 : EltTy) = .f32) shapeCasts_S64x32x1_S64x32,
    binary main_v22 main_v24 main_v25 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v21 main_v25 main_v26 (addf : (⟨S16x2045x64, .f32⟩ : BufTy).Contents (Elt F) → (⟨S16x2045x64, .f32⟩ : BufTy).Contents (Elt F) → (⟨S16x2045x64, .f32⟩ : BufTy).Contents (Elt F)),
    unary main_arg0 main_v27 ((Host.slice S16x2045x32 ![0, 5, 0] ![1, 2, 1] · slicesBy_S16x4096x32_S16x2045x32_0s1_5s2_0s1) : (⟨S16x4096x32, .f32⟩ : BufTy).Contents (Elt F) → (⟨S16x2045x32, .f32⟩ : BufTy).Contents (Elt F)),
    unary main_arg1 main_v28 ((extractStridedSlice S64x32x1 ![0, 0, 5] · slices_S64x32x8_S64x32x1_0_0_5) : (⟨S64x32x8, .f32⟩ : BufTy).Contents (Elt F) → (⟨S64x32x1, .f32⟩ : BufTy).Contents (Elt F)),
    reshape main_v28 main_v29 (rfl : (.f32 : EltTy) = .f32) shapeCasts_S64x32x1_S64x32,
    binary main_v27 main_v29 main_v30 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v26 main_v30 main_v31 (addf : (⟨S16x2045x64, .f32⟩ : BufTy).Contents (Elt F) → (⟨S16x2045x64, .f32⟩ : BufTy).Contents (Elt F) → (⟨S16x2045x64, .f32⟩ : BufTy).Contents (Elt F)),
    unary main_arg0 main_v32 ((Host.slice S16x2045x32 ![0, 6, 0] ![1, 2, 1] · slicesBy_S16x4096x32_S16x2045x32_0s1_6s2_0s1) : (⟨S16x4096x32, .f32⟩ : BufTy).Contents (Elt F) → (⟨S16x2045x32, .f32⟩ : BufTy).Contents (Elt F)),
    unary main_arg1 main_v33 ((extractStridedSlice S64x32x1 ![0, 0, 6] · slices_S64x32x8_S64x32x1_0_0_6) : (⟨S64x32x8, .f32⟩ : BufTy).Contents (Elt F) → (⟨S64x32x1, .f32⟩ : BufTy).Contents (Elt F)),
    reshape main_v33 main_v34 (rfl : (.f32 : EltTy) = .f32) shapeCasts_S64x32x1_S64x32,
    binary main_v32 main_v34 main_v35 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v31 main_v35 main_v36 (addf : (⟨S16x2045x64, .f32⟩ : BufTy).Contents (Elt F) → (⟨S16x2045x64, .f32⟩ : BufTy).Contents (Elt F) → (⟨S16x2045x64, .f32⟩ : BufTy).Contents (Elt F)),
    unary main_arg0 main_v37 ((Host.slice S16x2045x32 ![0, 7, 0] ![1, 2, 1] · slicesBy_S16x4096x32_S16x2045x32_0s1_7s2_0s1) : (⟨S16x4096x32, .f32⟩ : BufTy).Contents (Elt F) → (⟨S16x2045x32, .f32⟩ : BufTy).Contents (Elt F)),
    unary main_arg1 main_v38 ((extractStridedSlice S64x32x1 ![0, 0, 7] · slices_S64x32x8_S64x32x1_0_0_7) : (⟨S64x32x8, .f32⟩ : BufTy).Contents (Elt F) → (⟨S64x32x1, .f32⟩ : BufTy).Contents (Elt F)),
    reshape main_v38 main_v39 (rfl : (.f32 : EltTy) = .f32) shapeCasts_S64x32x1_S64x32,
    binary main_v37 main_v39 main_v40 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v36 main_v40 main_v41 (addf : (⟨S16x2045x64, .f32⟩ : BufTy).Contents (Elt F) → (⟨S16x2045x64, .f32⟩ : BufTy).Contents (Elt F) → (⟨S16x2045x64, .f32⟩ : BufTy).Contents (Elt F)) ]

/-- The second convolution, tap after tap, from the bias on. -/
abbrev opsSecond : List (HloOp τ sig (Elt F)) :=
  [ unary main_arg4 main_v42 (broadcastInDim S1x1x64 ![2] bcast_S64_S1x1x64_2 : (⟨S64, .f32⟩ : BufTy).Contents (Elt F) → (⟨S1x1x64, .f32⟩ : BufTy).Contents (Elt F)),
    unary main_arg0 main_v43 ((Host.slice S16x2045x32 ![0, 0, 0] ![1, 2, 1] · slicesBy_S16x4096x32_S16x2045x32_0s1_0s2_0s1) : (⟨S16x4096x32, .f32⟩ : BufTy).Contents (Elt F) → (⟨S16x2045x32, .f32⟩ : BufTy).Contents (Elt F)),
    unary main_arg3 main_v44 ((extractStridedSlice S64x32x1 ![0, 0, 0] · slices_S64x32x8_S64x32x1_0_0_0) : (⟨S64x32x8, .f32⟩ : BufTy).Contents (Elt F) → (⟨S64x32x1, .f32⟩ : BufTy).Contents (Elt F)),
    reshape main_v44 main_v45 (rfl : (.f32 : EltTy) = .f32) shapeCasts_S64x32x1_S64x32,
    binary main_v43 main_v45 main_v46 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    unary main_v42 main_v47 (broadcastInDim S16x2045x64 ![0, 1, 2] bcast_S1x1x64_S16x2045x64_0_1_2 : (⟨S1x1x64, .f32⟩ : BufTy).Contents (Elt F) → (⟨S16x2045x64, .f32⟩ : BufTy).Contents (Elt F)),
    binary main_v47 main_v46 main_v48 (addf : (⟨S16x2045x64, .f32⟩ : BufTy).Contents (Elt F) → (⟨S16x2045x64, .f32⟩ : BufTy).Contents (Elt F) → (⟨S16x2045x64, .f32⟩ : BufTy).Contents (Elt F)),
    unary main_arg0 main_v49 ((Host.slice S16x2045x32 ![0, 1, 0] ![1, 2, 1] · slicesBy_S16x4096x32_S16x2045x32_0s1_1s2_0s1) : (⟨S16x4096x32, .f32⟩ : BufTy).Contents (Elt F) → (⟨S16x2045x32, .f32⟩ : BufTy).Contents (Elt F)),
    unary main_arg3 main_v50 ((extractStridedSlice S64x32x1 ![0, 0, 1] · slices_S64x32x8_S64x32x1_0_0_1) : (⟨S64x32x8, .f32⟩ : BufTy).Contents (Elt F) → (⟨S64x32x1, .f32⟩ : BufTy).Contents (Elt F)),
    reshape main_v50 main_v51 (rfl : (.f32 : EltTy) = .f32) shapeCasts_S64x32x1_S64x32,
    binary main_v49 main_v51 main_v52 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v48 main_v52 main_v53 (addf : (⟨S16x2045x64, .f32⟩ : BufTy).Contents (Elt F) → (⟨S16x2045x64, .f32⟩ : BufTy).Contents (Elt F) → (⟨S16x2045x64, .f32⟩ : BufTy).Contents (Elt F)),
    unary main_arg0 main_v54 ((Host.slice S16x2045x32 ![0, 2, 0] ![1, 2, 1] · slicesBy_S16x4096x32_S16x2045x32_0s1_2s2_0s1) : (⟨S16x4096x32, .f32⟩ : BufTy).Contents (Elt F) → (⟨S16x2045x32, .f32⟩ : BufTy).Contents (Elt F)),
    unary main_arg3 main_v55 ((extractStridedSlice S64x32x1 ![0, 0, 2] · slices_S64x32x8_S64x32x1_0_0_2) : (⟨S64x32x8, .f32⟩ : BufTy).Contents (Elt F) → (⟨S64x32x1, .f32⟩ : BufTy).Contents (Elt F)),
    reshape main_v55 main_v56 (rfl : (.f32 : EltTy) = .f32) shapeCasts_S64x32x1_S64x32,
    binary main_v54 main_v56 main_v57 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v53 main_v57 main_v58 (addf : (⟨S16x2045x64, .f32⟩ : BufTy).Contents (Elt F) → (⟨S16x2045x64, .f32⟩ : BufTy).Contents (Elt F) → (⟨S16x2045x64, .f32⟩ : BufTy).Contents (Elt F)),
    unary main_arg0 main_v59 ((Host.slice S16x2045x32 ![0, 3, 0] ![1, 2, 1] · slicesBy_S16x4096x32_S16x2045x32_0s1_3s2_0s1) : (⟨S16x4096x32, .f32⟩ : BufTy).Contents (Elt F) → (⟨S16x2045x32, .f32⟩ : BufTy).Contents (Elt F)),
    unary main_arg3 main_v60 ((extractStridedSlice S64x32x1 ![0, 0, 3] · slices_S64x32x8_S64x32x1_0_0_3) : (⟨S64x32x8, .f32⟩ : BufTy).Contents (Elt F) → (⟨S64x32x1, .f32⟩ : BufTy).Contents (Elt F)),
    reshape main_v60 main_v61 (rfl : (.f32 : EltTy) = .f32) shapeCasts_S64x32x1_S64x32,
    binary main_v59 main_v61 main_v62 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v58 main_v62 main_v63 (addf : (⟨S16x2045x64, .f32⟩ : BufTy).Contents (Elt F) → (⟨S16x2045x64, .f32⟩ : BufTy).Contents (Elt F) → (⟨S16x2045x64, .f32⟩ : BufTy).Contents (Elt F)),
    unary main_arg0 main_v64 ((Host.slice S16x2045x32 ![0, 4, 0] ![1, 2, 1] · slicesBy_S16x4096x32_S16x2045x32_0s1_4s2_0s1) : (⟨S16x4096x32, .f32⟩ : BufTy).Contents (Elt F) → (⟨S16x2045x32, .f32⟩ : BufTy).Contents (Elt F)),
    unary main_arg3 main_v65 ((extractStridedSlice S64x32x1 ![0, 0, 4] · slices_S64x32x8_S64x32x1_0_0_4) : (⟨S64x32x8, .f32⟩ : BufTy).Contents (Elt F) → (⟨S64x32x1, .f32⟩ : BufTy).Contents (Elt F)),
    reshape main_v65 main_v66 (rfl : (.f32 : EltTy) = .f32) shapeCasts_S64x32x1_S64x32,
    binary main_v64 main_v66 main_v67 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v63 main_v67 main_v68 (addf : (⟨S16x2045x64, .f32⟩ : BufTy).Contents (Elt F) → (⟨S16x2045x64, .f32⟩ : BufTy).Contents (Elt F) → (⟨S16x2045x64, .f32⟩ : BufTy).Contents (Elt F)),
    unary main_arg0 main_v69 ((Host.slice S16x2045x32 ![0, 5, 0] ![1, 2, 1] · slicesBy_S16x4096x32_S16x2045x32_0s1_5s2_0s1) : (⟨S16x4096x32, .f32⟩ : BufTy).Contents (Elt F) → (⟨S16x2045x32, .f32⟩ : BufTy).Contents (Elt F)),
    unary main_arg3 main_v70 ((extractStridedSlice S64x32x1 ![0, 0, 5] · slices_S64x32x8_S64x32x1_0_0_5) : (⟨S64x32x8, .f32⟩ : BufTy).Contents (Elt F) → (⟨S64x32x1, .f32⟩ : BufTy).Contents (Elt F)),
    reshape main_v70 main_v71 (rfl : (.f32 : EltTy) = .f32) shapeCasts_S64x32x1_S64x32,
    binary main_v69 main_v71 main_v72 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v68 main_v72 main_v73 (addf : (⟨S16x2045x64, .f32⟩ : BufTy).Contents (Elt F) → (⟨S16x2045x64, .f32⟩ : BufTy).Contents (Elt F) → (⟨S16x2045x64, .f32⟩ : BufTy).Contents (Elt F)),
    unary main_arg0 main_v74 ((Host.slice S16x2045x32 ![0, 6, 0] ![1, 2, 1] · slicesBy_S16x4096x32_S16x2045x32_0s1_6s2_0s1) : (⟨S16x4096x32, .f32⟩ : BufTy).Contents (Elt F) → (⟨S16x2045x32, .f32⟩ : BufTy).Contents (Elt F)),
    unary main_arg3 main_v75 ((extractStridedSlice S64x32x1 ![0, 0, 6] · slices_S64x32x8_S64x32x1_0_0_6) : (⟨S64x32x8, .f32⟩ : BufTy).Contents (Elt F) → (⟨S64x32x1, .f32⟩ : BufTy).Contents (Elt F)),
    reshape main_v75 main_v76 (rfl : (.f32 : EltTy) = .f32) shapeCasts_S64x32x1_S64x32,
    binary main_v74 main_v76 main_v77 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v73 main_v77 main_v78 (addf : (⟨S16x2045x64, .f32⟩ : BufTy).Contents (Elt F) → (⟨S16x2045x64, .f32⟩ : BufTy).Contents (Elt F) → (⟨S16x2045x64, .f32⟩ : BufTy).Contents (Elt F)),
    unary main_arg0 main_v79 ((Host.slice S16x2045x32 ![0, 7, 0] ![1, 2, 1] · slicesBy_S16x4096x32_S16x2045x32_0s1_7s2_0s1) : (⟨S16x4096x32, .f32⟩ : BufTy).Contents (Elt F) → (⟨S16x2045x32, .f32⟩ : BufTy).Contents (Elt F)),
    unary main_arg3 main_v80 ((extractStridedSlice S64x32x1 ![0, 0, 7] · slices_S64x32x8_S64x32x1_0_0_7) : (⟨S64x32x8, .f32⟩ : BufTy).Contents (Elt F) → (⟨S64x32x1, .f32⟩ : BufTy).Contents (Elt F)),
    reshape main_v80 main_v81 (rfl : (.f32 : EltTy) = .f32) shapeCasts_S64x32x1_S64x32,
    binary main_v79 main_v81 main_v82 ((fun l r => Host.dotGeneral dot_S16x2045x32_S64x32_S16x2045x64_2_1_01_0_n_n none l r) : (⟨S16x2045x32, .f32⟩ : BufTy).Contents (Elt F) → (⟨S64x32, .f32⟩ : BufTy).Contents (Elt F) → (⟨S16x2045x64, .f32⟩ : BufTy).Contents (Elt F)),
    binary main_v78 main_v82 main_v83 (addf : (⟨S16x2045x64, .f32⟩ : BufTy).Contents (Elt F) → (⟨S16x2045x64, .f32⟩ : BufTy).Contents (Elt F) → (⟨S16x2045x64, .f32⟩ : BufTy).Contents (Elt F)) ]

/-- The gated product, and the patch number of every position. -/
abbrev opsGate : List (HloOp τ sig (Elt F)) :=
  [ unary main_v83 main_v84 (Host.negf : (⟨S16x2045x64, .f32⟩ : BufTy).Contents (Elt F) → (⟨S16x2045x64, .f32⟩ : BufTy).Contents (Elt F)),
    unary main_v84 main_v85 (Host.exp : (⟨S16x2045x64, .f32⟩ : BufTy).Contents (Elt F) → (⟨S16x2045x64, .f32⟩ : BufTy).Contents (Elt F)),
    nullary main_cst (constant S_ .f32 0x3F800000#32),
    unary main_cst main_v86 (broadcastInDim S16x2045x64 ![] bcast_S_S16x2045x64 : (⟨S_, .f32⟩ : BufTy).Contents (Elt F) → (⟨S16x2045x64, .f32⟩ : BufTy).Contents (Elt F)),
    binary main_v86 main_v85 main_v87 (addf : (⟨S16x2045x64, .f32⟩ : BufTy).Contents (Elt F) → (⟨S16x2045x64, .f32⟩ : BufTy).Contents (Elt F) → (⟨S16x2045x64, .f32⟩ : BufTy).Contents (Elt F)),
    nullary main_cst_0 (constant S_ .f32 0x3F800000#32),
    unary main_cst_0 main_v88 (broadcastInDim S16x2045x64 ![] bcast_S_S16x2045x64 : (⟨S_, .f32⟩ : BufTy).Contents (Elt F) → (⟨S16x2045x64, .f32⟩ : BufTy).Contents (Elt F)),
    binary main_v88 main_v87 main_v89 (Host.divf : (⟨S16x2045x64, .f32⟩ : BufTy).Contents (Elt F) → (⟨S16x2045x64, .f32⟩ : BufTy).Contents (Elt F) → (⟨S16x2045x64, .f32⟩ : BufTy).Contents (Elt F)),
    binary main_v41 main_v89 main_v90 (mulf : (⟨S16x2045x64, .f32⟩ : BufTy).Contents (Elt F) → (⟨S16x2045x64, .f32⟩ : BufTy).Contents (Elt F) → (⟨S16x2045x64, .f32⟩ : BufTy).Contents (Elt F)),
    nullary main_v91 (iotaInDim S2045 32 0),
    nullary main_c (constantI S_ 32 2#32),
    unary main_c main_v92 (broadcastInDim S2045 ![] bcast_S_S2045 : (⟨S_, .i32⟩ : BufTy).Contents (Elt F) → (⟨S2045, .i32⟩ : BufTy).Contents (Elt F)),
    binary main_v91 main_v92 main_v93 (muli : (⟨S2045, .i32⟩ : BufTy).Contents (Elt F) → (⟨S2045, .i32⟩ : BufTy).Contents (Elt F) → (⟨S2045, .i32⟩ : BufTy).Contents (Elt F)),
    nullary main_c_1 (constantI S_ 32 64#32),
    TRef.unary (TRef.of (T := ⟨S_, .i32⟩) main_c_1) (TRef.of (T := ⟨S_, .i32⟩) main_call0_v0) id,
    TRef.unary (TRef.of (T := ⟨S_, .i32⟩) main_call0_v0) (TRef.of (T := ⟨S2045, .i32⟩) main_call0_v1) (broadcastInDim S2045 ![] bcast_S_S2045),
    TRef.binary (TRef.of (T := ⟨S2045, .i32⟩) main_v93) (TRef.of (T := ⟨S2045, .i32⟩) main_call0_v1) (TRef.of (T := ⟨S2045, .i32⟩) main_call0_v2) Host.divsi,
    TRef.unary (TRef.of (T := ⟨S2045, .i32⟩) main_v93) (TRef.of (T := ⟨S2045, .i32⟩) main_call0_v3) signi,
    TRef.unary (TRef.of (T := ⟨S_, .i32⟩) main_call0_v0) (TRef.of (T := ⟨S_, .i32⟩) main_call0_v4) signi,
    TRef.unary (TRef.of (T := ⟨S_, .i32⟩) main_call0_v4) (TRef.of (T := ⟨S2045, .i32⟩) main_call0_v5) (broadcastInDim S2045 ![] bcast_S_S2045),
    TRef.binary (TRef.of (T := ⟨S2045, .i32⟩) main_call0_v3) (TRef.of (T := ⟨S2045, .i32⟩) main_call0_v5) (TRef.of (T := ⟨S2045, .i1⟩) main_call0_v6) (cmpi .ne),
    TRef.unary (TRef.of (T := ⟨S_, .i32⟩) main_call0_v0) (TRef.of (T := ⟨S2045, .i32⟩) main_call0_v7) (broadcastInDim S2045 ![] bcast_S_S2045),
    TRef.binary (TRef.of (T := ⟨S2045, .i32⟩) main_v93) (TRef.of (T := ⟨S2045, .i32⟩) main_call0_v7) (TRef.of (T := ⟨S2045, .i32⟩) main_call0_v8) Host.remsi,
    TRef.nullary (TRef.of (T := ⟨S_, .i32⟩) main_call0_c) (constantI S_ 32 0#32),
    TRef.unary (TRef.of (T := ⟨S_, .i32⟩) main_call0_c) (TRef.of (T := ⟨S2045, .i32⟩) main_call0_v9) (broadcastInDim S2045 ![] bcast_S_S2045),
    TRef.binary (TRef.of (T := ⟨S2045, .i32⟩) main_call0_v8) (TRef.of (T := ⟨S2045, .i32⟩) main_call0_v9) (TRef.of (T := ⟨S2045, .i1⟩) main_call0_v10) (cmpi .ne),
    TRef.binary (TRef.of (T := ⟨S2045, .i1⟩) main_call0_v6) (TRef.of (T := ⟨S2045, .i1⟩) main_call0_v10) (TRef.of (T := ⟨S2045, .i1⟩) main_call0_v11) andi,
    TRef.nullary (TRef.of (T := ⟨S_, .i32⟩) main_call0_c_0) (constantI S_ 32 1#32),
    TRef.unary (TRef.of (T := ⟨S_, .i32⟩) main_call0_c_0) (TRef.of (T := ⟨S2045, .i32⟩) main_call0_v12) (broadcastInDim S2045 ![] bcast_S_S2045),
    TRef.binary (TRef.of (T := ⟨S2045, .i32⟩) main_call0_v2) (TRef.of (T := ⟨S2045, .i32⟩) main_call0_v12) (TRef.of (T := ⟨S2045, .i32⟩) main_call0_v13) subi,
    TRef.ternary (TRef.of (T := ⟨S2045, .i1⟩) main_call0_v11) (TRef.of (T := ⟨S2045, .i32⟩) main_call0_v13) (TRef.of (T := ⟨S2045, .i32⟩) main_call0_v2) (TRef.of (T := ⟨S2045, .i32⟩) main_v94) select,
    nullary main_c_2 (constantI S_ 32 0#32),
    nullary main_c_3 (constantI S_ 32 63#32),
    TRef.unary (TRef.of (T := ⟨S_, .i32⟩) main_c_2) (TRef.of (T := ⟨S_, .i32⟩) main_call1_v0) id,
    TRef.unary (TRef.of (T := ⟨S_, .i32⟩) main_call1_v0) (TRef.of (T := ⟨S2045, .i32⟩) main_call1_v1) (broadcastInDim S2045 ![] bcast_S_S2045),
    TRef.binary (TRef.of (T := ⟨S2045, .i32⟩) main_call1_v1) (TRef.of (T := ⟨S2045, .i32⟩) main_v94) (TRef.of (T := ⟨S2045, .i32⟩) main_call1_v2) maxsi,
    TRef.unary (TRef.of (T := ⟨S_, .i32⟩) main_c_3) (TRef.of (T := ⟨S_, .i32⟩) main_call1_v3) id,
    TRef.unary (TRef.of (T := ⟨S_, .i32⟩) main_call1_v3) (TRef.of (T := ⟨S2045, .i32⟩) main_call1_v4) (broadcastInDim S2045 ![] bcast_S_S2045),
    TRef.binary (TRef.of (T := ⟨S2045, .i32⟩) main_call1_v4) (TRef.of (T := ⟨S2045, .i32⟩) main_call1_v2) (TRef.of (T := ⟨S2045, .i32⟩) main_v95) minsi ]

/-- Which position lies in which patch, and the maximum over the positions of a patch. -/
abbrev opsPool : List (HloOp τ sig (Elt F)) :=
  [ unary main_v95 main_v96 (broadcastInDim S1x2045 ![1] bcast_S2045_S1x2045_1 : (⟨S2045, .i32⟩ : BufTy).Contents (Elt F) → (⟨S1x2045, .i32⟩ : BufTy).Contents (Elt F)),
    nullary main_v97 (iotaInDim S64 32 0),
    unary main_v97 main_v98 (broadcastInDim S64x1 ![0] bcast_S64_S64x1_0 : (⟨S64, .i32⟩ : BufTy).Contents (Elt F) → (⟨S64x1, .i32⟩ : BufTy).Contents (Elt F)),
    unary main_v96 main_v99 (broadcastInDim S64x2045 ![0, 1] bcast_S1x2045_S64x2045_0_1 : (⟨S1x2045, .i32⟩ : BufTy).Contents (Elt F) → (⟨S64x2045, .i32⟩ : BufTy).Contents (Elt F)),
    unary main_v98 main_v100 (broadcastInDim S64x2045 ![0, 1] bcast_S64x1_S64x2045_0_1 : (⟨S64x1, .i32⟩ : BufTy).Contents (Elt F) → (⟨S64x2045, .i32⟩ : BufTy).Contents (Elt F)),
    binary main_v99 main_v100 main_v101 (cmpi .eq : (⟨S64x2045, .i32⟩ : BufTy).Contents (Elt F) → (⟨S64x2045, .i32⟩ : BufTy).Contents (Elt F) → (⟨S64x2045, .i1⟩ : BufTy).Contents (Elt F)),
    unary main_v101 main_v102 (broadcastInDim S1x64x2045x1 ![1, 2] bcast_S64x2045_S1x64x2045x1_1_2 : (⟨S64x2045, .i1⟩ : BufTy).Contents (Elt F) → (⟨S1x64x2045x1, .i1⟩ : BufTy).Contents (Elt F)),
    unary main_v90 main_v103 (broadcastInDim S16x1x2045x64 ![0, 2, 3] bcast_S16x2045x64_S16x1x2045x64_0_2_3 : (⟨S16x2045x64, .f32⟩ : BufTy).Contents (Elt F) → (⟨S16x1x2045x64, .f32⟩ : BufTy).Contents (Elt F)),
    nullary main_cst_4 (constant S_ .f32 0xFF800000#32),
    TRef.unary (TRef.of (T := ⟨S_, .f32⟩) main_cst_4) (TRef.of (T := ⟨S_, .f32⟩) main_call2_v0) id,
    TRef.unary (TRef.of (T := ⟨S1x64x2045x1, .i1⟩) main_v102) (TRef.of (T := ⟨S16x64x2045x64, .i1⟩) main_call2_v1) (broadcastInDim S16x64x2045x64 ![0, 1, 2, 3] bcast_S1x64x2045x1_S16x64x2045x64_0_1_2_3),
    TRef.unary (TRef.of (T := ⟨S16x1x2045x64, .f32⟩) main_v103) (TRef.of (T := ⟨S16x64x2045x64, .f32⟩) main_call2_v2) (broadcastInDim S16x64x2045x64 ![0, 1, 2, 3] bcast_S16x1x2045x64_S16x64x2045x64_0_1_2_3),
    TRef.unary (TRef.of (T := ⟨S_, .f32⟩) main_call2_v0) (TRef.of (T := ⟨S16x64x2045x64, .f32⟩) main_call2_v3) (broadcastInDim S16x64x2045x64 ![] bcast_S_S16x64x2045x64),
    TRef.ternary (TRef.of (T := ⟨S16x64x2045x64, .i1⟩) main_call2_v1) (TRef.of (T := ⟨S16x64x2045x64, .f32⟩) main_call2_v2) (TRef.of (T := ⟨S16x64x2045x64, .f32⟩) main_call2_v3) (TRef.of (T := ⟨S16x64x2045x64, .f32⟩) main_v104) select,
    nullary main_cst_5 (constant S_ .f32 0xFF800000#32),
    binary main_v104 main_cst_5 main_v105 ((fun x v => Host.reduce FloatOps.maximumf x v reducesTo_S16x64x2045x64_S16x64x64_d2 h_S_) : (⟨S16x64x2045x64, .f32⟩ : BufTy).Contents (Elt F) → (⟨S_, .f32⟩ : BufTy).Contents (Elt F) → (⟨S16x64x64, .f32⟩ : BufTy).Contents (Elt F)) ]

end Cert.ReferenceIdeal.Run

end
-- ==== Proof.RefRun.lean ====
module

public import proofs.«01_k».proof.Proof.RefOps
public import Idealize.ShloMosaic.Lib.StableHlo.RunRead
public import Idealize.ShloMosaic.Lib.Pipeline.Frame

@[expose] public section

set_option maxRecDepth 16384

noncomputable section

/-! The reference runs to the end, leaves its arguments alone, and its result is the pooled gated convolution below. -/

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- One tap: the product, over the channels, of every position's row with one tap's weights. -/
def tap (xk : FVec F S16x2045x32 .f32) (Wk : FVec F S64x32x1 .f32) : FVec F S16x2045x64 .f32 :=
  Host.dotGeneral dot_S16x2045x32_S64x32_S16x2045x64_2_1_01_0_n_n none xk
    (shapeCast S64x32 Wk shapeCasts_S64x32x1_S64x32)

/-- The strided convolution as the reference computes it: the bias, then the eight taps added one by one. -/
def conv (x : FVec F S16x4096x32 .f32) (W : FVec F S64x32x8 .f32) (b : FVec F S64 .f32) : FVec F S16x2045x64 .f32 :=
  addf (addf (addf (addf (addf (addf (addf (addf (broadcastInDim S16x2045x64 ![0, 1, 2] bcast_S1x1x64_S16x2045x64_0_1_2 (broadcastInDim S1x1x64 ![2] bcast_S64_S1x1x64_2 b))
    (tap (Host.slice S16x2045x32 ![0, 0, 0] ![1, 2, 1] x slicesBy_S16x4096x32_S16x2045x32_0s1_0s2_0s1)
      (extractStridedSlice S64x32x1 ![0, 0, 0] W slices_S64x32x8_S64x32x1_0_0_0)))
    (tap (Host.slice S16x2045x32 ![0, 1, 0] ![1, 2, 1] x slicesBy_S16x4096x32_S16x2045x32_0s1_1s2_0s1)
      (extractStridedSlice S64x32x1 ![0, 0, 1] W slices_S64x32x8_S64x32x1_0_0_1)))
    (tap (Host.slice S16x2045x32 ![0, 2, 0] ![1, 2, 1] x slicesBy_S16x4096x32_S16x2045x32_0s1_2s2_0s1)
      (extractStridedSlice S64x32x1 ![0, 0, 2] W slices_S64x32x8_S64x32x1_0_0_2)))
    (tap (Host.slice S16x2045x32 ![0, 3, 0] ![1, 2, 1] x slicesBy_S16x4096x32_S16x2045x32_0s1_3s2_0s1)
      (extractStridedSlice S64x32x1 ![0, 0, 3] W slices_S64x32x8_S64x32x1_0_0_3)))
    (tap (Host.slice S16x2045x32 ![0, 4, 0] ![1, 2, 1] x slicesBy_S16x4096x32_S16x2045x32_0s1_4s2_0s1)
      (extractStridedSlice S64x32x1 ![0, 0, 4] W slices_S64x32x8_S64x32x1_0_0_4)))
    (tap (Host.slice S16x2045x32 ![0, 5, 0] ![1, 2, 1] x slicesBy_S16x4096x32_S16x2045x32_0s1_5s2_0s1)
      (extractStridedSlice S64x32x1 ![0, 0, 5] W slices_S64x32x8_S64x32x1_0_0_5)))
    (tap (Host.slice S16x2045x32 ![0, 6, 0] ![1, 2, 1] x slicesBy_S16x4096x32_S16x2045x32_0s1_6s2_0s1)
      (extractStridedSlice S64x32x1 ![0, 0, 6] W slices_S64x32x8_S64x32x1_0_0_6)))
    (tap (Host.slice S16x2045x32 ![0, 7, 0] ![1, 2, 1] x slicesBy_S16x4096x32_S16x2045x32_0s1_7s2_0s1)
      (extractStridedSlice S64x32x1 ![0, 0, 7] W slices_S64x32x8_S64x32x1_0_0_7))

/-- The gate: one convolution times the sigmoid of the other, the sigmoid written out. -/
def gate (a g : FVec F S16x2045x64 .f32) : FVec F S16x2045x64 .f32 :=
  mulf a (Host.divf (broadcastInDim S16x2045x64 ![] bcast_S_S16x2045x64 (constant S_ .f32 0x3F800000#32))
    (addf (broadcastInDim S16x2045x64 ![] bcast_S_S16x2045x64 (constant S_ .f32 0x3F800000#32)) (Host.exp (Host.negf g))))

/-- The start of every position: two steps apart. -/
def starts : IVec S2045 32 :=
  muli (iotaInDim S2045 32 0) (broadcastInDim S2045 ![] bcast_S_S2045 (constantI S_ 32 2#32))

/-- A word in every place. -/
def splat (v : BitVec 32) : IVec S2045 32 := broadcastInDim S2045 ![] bcast_S_S2045 (constantI S_ 32 v)

/-- The number of the patch every position starts in: the start over 64 rounded down, kept between 0 and 63. -/
def patchNo : IVec S2045 32 :=
  minsi (splat 63#32) (maxsi (splat 0#32)
    (select (andi (cmpi .ne (signi starts) (broadcastInDim S2045 ![] bcast_S_S2045 (signi (constantI S_ 32 64#32))))
        (cmpi .ne (Host.remsi starts (splat 64#32)) (splat 0#32)))
      (subi (Host.divsi starts (splat 64#32)) (splat 1#32)) (Host.divsi starts (splat 64#32))))

/-- The maximum over the positions of every patch. -/
def pool (z : FVec F S16x2045x64 .f32) (pn : IVec S2045 32) : FVec F S16x64x64 .f32 :=
  Host.reduce FloatOps.maximumf
    (select (broadcastInDim S16x64x2045x64 ![0, 1, 2, 3] bcast_S1x64x2045x1_S16x64x2045x64_0_1_2_3
        (broadcastInDim S1x64x2045x1 ![1, 2] bcast_S64x2045_S1x64x2045x1_1_2
          (cmpi .eq (broadcastInDim S64x2045 ![0, 1] bcast_S1x2045_S64x2045_0_1 (broadcastInDim S1x2045 ![1] bcast_S2045_S1x2045_1 pn))
            (broadcastInDim S64x2045 ![0, 1] bcast_S64x1_S64x2045_0_1 (broadcastInDim S64x1 ![0] bcast_S64_S64x1_0 (iotaInDim S64 32 0))))))
      (broadcastInDim S16x64x2045x64 ![0, 1, 2, 3] bcast_S16x1x2045x64_S16x64x2045x64_0_1_2_3
        (broadcastInDim S16x1x2045x64 ![0, 2, 3] bcast_S16x2045x64_S16x1x2045x64_0_2_3 z))
      (broadcastInDim S16x64x2045x64 ![] bcast_S_S16x64x2045x64 (constant S_ .f32 0xFF800000#32)))
    (constant S_ .f32 0xFF800000#32) reducesTo_S16x64x2045x64_S16x64x64_d2 h_S_

/-- The reference's program is its four lines, one after the other. -/
theorem main_eq (c : Dev nD) : main (F := F) c = seq (opsFirst ++ (opsSecond ++ (opsGate ++ opsPool))) := rfl

/-- The first line leaves the first convolution. -/
theorem first_read (V : Valuation τ sig (Elt F)) :
    after opsFirst V main_v41 = conv (V main_arg0) (V main_arg1) (V main_arg2) := by
  after_reads_simp; rfl

/-- The second line leaves the second convolution. -/
theorem second_read (V : Valuation τ sig (Elt F)) :
    after opsSecond V main_v83 = conv (V main_arg0) (V main_arg3) (V main_arg4) := by
  after_reads_simp; rfl

/-- The third line leaves the gated product. -/
theorem gate_read (V : Valuation τ sig (Elt F)) : after opsGate V main_v90 = gate (V main_v41) (V main_v83) := by
  after_reads_simp; rfl

/-- The third line leaves the patch numbers. -/
theorem patchNo_read (V : Valuation τ sig (Elt F)) : after opsGate V main_v95 = patchNo := by
  simp only [opsGate, TRef.binary, TRef.nullary, TRef.ternary, TRef.unary, TRef.toBuf, TRef.ofBuf, cast_eq]
  after_reads_simp; rfl

/-- The last line leaves the maximum over every patch. -/
theorem pool_read (V : Valuation τ sig (Elt F)) : after opsPool V main_v105 = pool (V main_v90) (V main_v95) := by
  simp only [opsPool, TRef.binary, TRef.nullary, TRef.ternary, TRef.unary, TRef.toBuf, TRef.ofBuf, cast_eq]
  after_reads_simp; rfl

/-- What the four lines leave in a buffer, line by line. -/
theorem after_lines (V : Valuation τ sig (Elt F)) (b : DevRef τ sig) :
    after (opsFirst ++ (opsSecond ++ (opsGate ++ opsPool))) V b =
      after opsPool (after opsGate (after opsSecond (after opsFirst V))) b := by
  rw [after_append, after_append, after_append]

/-- A buffer none of the four lines writes ends as it began. -/
theorem kept (V : Valuation τ sig (Elt F)) :
    after (opsFirst ++ (opsSecond ++ (opsGate ++ opsPool))) V main_arg0 = V main_arg0
    ∧ after (opsFirst ++ (opsSecond ++ (opsGate ++ opsPool))) V main_arg1 = V main_arg1
    ∧ after (opsFirst ++ (opsSecond ++ (opsGate ++ opsPool))) V main_arg2 = V main_arg2
    ∧ after (opsFirst ++ (opsSecond ++ (opsGate ++ opsPool))) V main_arg3 = V main_arg3
    ∧ after (opsFirst ++ (opsSecond ++ (opsGate ++ opsPool))) V main_arg4 = V main_arg4 := by
  simp only [after_lines]
  refine ⟨?_, ?_, ?_, ?_, ?_⟩ <;> after_reads_simp

/-- The reference's result, as a function of its five arguments. -/
def result (x : FVec F S16x4096x32 .f32) (W1 : FVec F S64x32x8 .f32) (b1 : FVec F S64 .f32)
    (W2 : FVec F S64x32x8 .f32) (b2 : FVec F S64 .f32) : FVec F S16x64x64 .f32 :=
  pool (gate (conv x W1 b1) (conv x W2 b2)) patchNo

/-- The four lines leave the result. -/
theorem result_read (V : Valuation τ sig (Elt F)) :
    after (opsFirst ++ (opsSecond ++ (opsGate ++ opsPool))) V main_v105 =
      result (V main_arg0) (V main_arg1) (V main_arg2) (V main_arg3) (V main_arg4) := by
  have h0 : after opsFirst V main_arg0 = V main_arg0 := by after_reads_simp
  have h3 : after opsFirst V main_arg3 = V main_arg3 := by after_reads_simp
  have h4 : after opsFirst V main_arg4 = V main_arg4 := by after_reads_simp
  have ha : ∀ U : Valuation τ sig (Elt F), after opsSecond U main_v41 = U main_v41 := fun U => by after_reads_simp
  rw [after_lines, pool_read, gate_read, patchNo_read, second_read, ha, first_read, h0, h3, h4]
  rfl

/-- No operation of the four lines touches a buffer outside the device's own. -/
theorem bufs_sub : (opsFirst ++ (opsSecond ++ (opsGate ++ opsPool)) : List (HloOp τ sig (Elt F))).Forall
    fun op => op.bufs ⊆ tcRefs τ sig := by
  have h1 : (opsFirst : List (HloOp τ sig (Elt F))).Forall fun op => op.bufs ⊆ tcRefs τ sig := by simp
  have h2 : (opsSecond : List (HloOp τ sig (Elt F))).Forall fun op => op.bufs ⊆ tcRefs τ sig := by simp
  have h3 : (opsGate : List (HloOp τ sig (Elt F))).Forall fun op => op.bufs ⊆ tcRefs τ sig := by simp
  have h4 : (opsPool : List (HloOp τ sig (Elt F))).Forall fun op => op.bufs ⊆ tcRefs τ sig := by simp
  exact List.forall_append.mpr ⟨h1, List.forall_append.mpr ⟨h2, List.forall_append.mpr ⟨h3, h4⟩⟩⟩

/-- No buffer of the reference is scoped. -/
theorem scopedRefs_eq : (Finset.univ.filter fun b : Ref sig .tc => b.isScoped) = ∅ := by decide
/-- No semaphore of the reference is scoped. -/
theorem scopedSems_eq : (Finset.univ.filter fun sm : SemLoc sig => sm.isScoped .tc) = ∅ := by decide

/-- The reference's run: it ends with its result in place and its arguments as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v105) =
        result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      have k := kept (F := F) (launchContents m c)
      ⟨(h c main_v105).trans (result_read _), (h c main_arg0).trans k.1, (h c main_arg1).trans k.2.1,
        (h c main_arg2).trans k.2.2.1, (h c main_arg3).trans k.2.2.2.1, (h c main_arg4).trans k.2.2.2.2⟩)
    (run_seq scopedRefs_eq scopedSems_eq defs main (fun _ => opsFirst ++ (opsSecond ++ (opsGate ++ opsPool)))
      main_eq (fun _ => bufs_sub) m ρ)

end Cert.ReferenceIdeal.Run

end
-- ==== Proof.RefValue.lean ====
module

public import proofs.«01_k».proof.Proof.RefRun
public import proofs.«01_k».proof.Proof.Spec
public import Idealize.ShloMosaic.Lib.Pointwise
public import Idealize.ShloMosaic.Lib.Tactic

@[expose] public section

set_option maxRecDepth 16384

noncomputable section

/-! The reference's result at an index. -/

namespace Cert.ReferenceIdeal.Run

open Idealize.ShloMosaic Idealize.ShloMosaic.TcCoe Idealize.SL.Sem Cert.ReferenceIdeal Cert.ReferenceIdeal.Gen

/-- One tap at an index: the sum over the channels, the tap's weights times the samples `k` past the window's start. -/
theorem tap_at (x : FVec Ideal S16x4096x32 .f32) (W : FVec Ideal S64x32x8 .f32) (k : ℕ) (hk : k < 8)
    (hx : S16x4096x32.SlicesBy (![0, k, 0] : Fin 3 → Nat) ![1, 2, 1] S16x2045x32) (hW : S64x32x8.Slices ![0, 0, k] S64x32x1)
    (i : Fin 16) (l : Fin 2045) (e : Fin 64) :
    tap (Host.slice S16x2045x32 ![0, k, 0] ![1, 2, 1] x hx) (extractStridedSlice S64x32x1 ![0, 0, k] W hW) (ix3 i l e) =
      ∑ c : Fin 32, W (ix3 e c ⟨k, hk⟩) * x (ix3 i ⟨2 * l + k, by omega⟩ c) := by
  pointwise [tap]
  refine Finset.sum_congr rfl fun c _ => ?_
  rw [mul_comm]
  simp only [add_comm k]

/-- The convolution at an index. -/
theorem conv_at (x : FVec Ideal S16x4096x32 .f32) (W : FVec Ideal S64x32x8 .f32) (b : FVec Ideal S64 .f32)
    (i : Fin 16) (l : Fin 2045) (e : Fin 64) :
    conv x W b (ix3 i l e) = Cert.Spec.conv x W b i e (2 * l) (by omega) := by
  pointwise [conv]
  simp (disch := decide) only [tap_at]
  rw [Cert.Spec.conv, Fin.sum_univ_eight]
  simp only [add_assoc, add_comm (b (ix1 e))]
  rfl

/-- The gate at an index. -/
theorem gate_at (a g : FVec Ideal S16x2045x64 .f32) (i : Fin 16) (l : Fin 2045) (e : Fin 64) :
    gate a g (ix3 i l e) = a (ix3 i l e) * Ideal.logistic (g (ix3 i l e)) := by
  pointwise [gate]
  rfl

/-- Thirty-two windows start in every patch. -/
theorem patchNo_at (l : Fin 2045) : patchNo (ix1 l) = BitVec.ofNat 32 (l / 32) := by
  pointwise [patchNo, splat, starts]
  revert l
  decide +kernel

/-- A value chosen by the equality of two small numbers. -/
theorem select_eq (a b : ℕ) (ha : a < 64) (hb : b < 64) (u v : EReal) :
    Scalar.select (IntOp.cmpi .eq (BitVec.ofNat 32 a) (BitVec.ofNat 32 b)) u v = if a = b then u else v := by
  have h : (BitVec.ofNat 32 a == BitVec.ofNat 32 b) = decide (a = b) := by
    rw [Bool.eq_iff_iff, beq_iff_eq, decide_eq_true_iff, ← BitVec.toNat_inj, BitVec.toNat_ofNat, BitVec.toNat_ofNat]
    omega
  by_cases e : a = b <;> simp [Scalar.select, IntOp.cmpi, h, e]

/-- The maximum over a patch at an index: over all positions, those of other patches masked out. -/
theorem pool_at (z : FVec Ideal S16x2045x64 .f32) (pn : IVec S2045 32) (i : Fin 16) (n e : Fin 64) :
    pool z pn (ix3 i n e) = Finset.univ.sup fun l : Fin 2045 =>
      Scalar.select (IntOp.cmpi .eq (pn (ix1 l)) (BitVec.ofNat 32 n)) (z (ix3 i l e)) ⊥ := by
  pointwise [pool]
  rw [show Ideal.ofBits FTy.f32 4286578688#32 = ⊥ from by simp [Ideal.ofBits, Ideal.ieee]]
  rfl

/-- The reference's result is the gated convolution's maximum over every patch. -/
theorem result_at (x : FVec Ideal S16x4096x32 .f32) (W1 : FVec Ideal S64x32x8 .f32) (b1 : FVec Ideal S64 .f32)
    (W2 : FVec Ideal S64x32x8 .f32) (b2 : FVec Ideal S64 .f32) (i : Fin 16) (n e : Fin 64) :
    result x W1 b1 W2 b2 (ix3 i n e) = Cert.Spec.pooled x W1 b1 W2 b2 i n e := by
  rw [result, pool_at, Cert.Spec.pooled, ← Cert.Spec.sup_windows]
  refine Finset.sup_congr rfl fun l _ => ?_
  rw [patchNo_at, select_eq _ _ (by omega) n.isLt, gate_at, conv_at, conv_at]
  rfl

end Cert.ReferenceIdeal.Run

end
-- ==== Proof.Array.lean ====
module

public import proofs.«01_k».proof.Proof.Gen.KernelIdeal.Value
public import proofs.«01_k».proof.Proof.Body
public import proofs.«01_k».proof.Proof.Patch
public import proofs.«01_k».proof.Proof.RefValue
public import Idealize.ShloMosaic.Lib.Pipeline.ValueKit
public import Idealize.ShloMosaic.Lib.Tactic

@[expose] public section

set_option maxRecDepth 16384

noncomputable section

/-! The kernel's result array, from its blocks. -/

namespace Cert.KernelIdeal.Array

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Which block every window stages at every grid point. -/
theorem idx : ∀ t : Fin cfg0.N, win0_0.index t = ![t.val, 0, 0] ∧ win0_1.index t = ![0, 0] ∧ win0_2.index t = ![0, 0]
    ∧ win0_3.index t = ![t.val, 0, 0] :=
  (by decide +kernel : ∀ t : Fin grid0.N, _)

/-- Every grid point stages the whole of the stacked weights. -/
theorem weights_blk (c : Dev nD) (t : Fin cfg0.N) (o : Fin 128) (r : Fin 256) :
    iblk m c 1 t (ix2 o r) = V m c main_v5 (ix2 o r) := by
  blk_ext [iblk, idx t]

/-- Every grid point stages the whole of the stacked biases. -/
theorem bias_blk (c : Dev nD) (t : Fin cfg0.N) (o : Fin 128) :
    iblk m c 2 t (ix2 o (0 : Fin 1)) = V m c main_v7 (ix2 o (0 : Fin 1)) := by
  blk_ext [iblk, idx t]

/-- The samples of a block are those of its two sequences. -/
theorem samples_blk (c : Dev nD) (t : Fin cfg0.N) (q : Fin 2) (i : Fin 16) (hi : i.val = t.val * 2 + q.val) (p : Fin 4096)
    (ch : Fin 32) : iblk m c 0 t (ix3 q p ch) = m ((c : Thread nD τ).loc main_arg0) (ix3 i p ch) := by
  blk_point [iblk, V, idx t]

/-- The stacked weights at a row and an entry: the first convolution's rows, then the second's, tap after tap. -/
theorem weights_at (c : Dev nD) (o : Fin 128) (r : Fin 256) : V m c main_v5 (ix2 o r) =
    if h : o.val < 64 then m ((c : Thread nD τ).loc main_arg1) (ix3 (⟨o, h⟩ : Fin 64) (⟨r % 32, by omega⟩ : Fin 32) (⟨r / 32, by omega⟩ : Fin 8))
    else m ((c : Thread nD τ).loc main_arg3) (ix3 (⟨o - 64, by omega⟩ : Fin 64) (⟨r % 32, by omega⟩ : Fin 32) (⟨r / 32, by omega⟩ : Fin 8)) := by
  entry_read
  pointwise

/-- The stacked biases: the first convolution's, then the second's. -/
theorem bias_at (c : Dev nD) (o : Fin 128) : V m c main_v7 (ix2 o (0 : Fin 1)) =
    if h : o.val < 64 then m ((c : Thread nD τ).loc main_arg2) (ix1 (⟨o, h⟩ : Fin 64))
    else m ((c : Thread nD τ).loc main_arg4) (ix1 (⟨o - 64, by omega⟩ : Fin 64)) := by
  entry_read
  pointwise

/-- Equal coordinates name the same weight. -/
theorem weight_congr (W : Cert.Spec.Weights) {e e' : Fin 64} {c c' : Fin 32} {k k' : Fin 8} (he : e.val = e'.val)
    (hc : c.val = c'.val) (hk : k.val = k'.val) : W (ix3 e c k) = W (ix3 e' c' k') := by
  rw [Fin.ext he, Fin.ext hc, Fin.ext hk]

/-- The first 64 rows of the stacked weights are the first convolution's, tap after tap. -/
theorem weights_first (c : Dev nD) (t : Fin cfg0.N) (e : Fin 64) (k : Fin 8) (ch : Fin 32) :
    iblk m c 1 t (ix2 (⟨e, by omega⟩ : Fin 128) (⟨k * 32 + ch, by omega⟩ : Fin 256)) =
      m ((c : Thread nD τ).loc main_arg1) (ix3 e ch k) :=
  (weights_blk m c t _ _).trans ((weights_at m c _ _).trans ((dif_pos e.isLt).trans
    (weight_congr _ (by dsimp only) (by dsimp only; omega) (by dsimp only; omega))))

/-- The last 64 rows of the stacked weights are the second convolution's, tap after tap. -/
theorem weights_second (c : Dev nD) (t : Fin cfg0.N) (e : Fin 64) (k : Fin 8) (ch : Fin 32) :
    iblk m c 1 t (ix2 (⟨64 + e, by omega⟩ : Fin 128) (⟨k * 32 + ch, by omega⟩ : Fin 256)) =
      m ((c : Thread nD τ).loc main_arg3) (ix3 e ch k) :=
  (weights_blk m c t _ _).trans ((weights_at m c _ _).trans ((dif_neg (by dsimp only; omega)).trans
    (weight_congr _ (by dsimp only; omega) (by dsimp only; omega) (by dsimp only; omega))))

/-- The first 64 stacked biases are the first convolution's. -/
theorem bias_first (c : Dev nD) (t : Fin cfg0.N) (e : Fin 64) :
    iblk m c 2 t (ix2 (⟨e, by omega⟩ : Fin 128) (0 : Fin 1)) = m ((c : Thread nD τ).loc main_arg2) (ix1 e) :=
  (bias_blk m c t _).trans ((bias_at m c _).trans (dif_pos e.isLt))

/-- The last 64 stacked biases are the second convolution's. -/
theorem bias_second (c : Dev nD) (t : Fin cfg0.N) (e : Fin 64) :
    iblk m c 2 t (ix2 (⟨64 + e, by omega⟩ : Fin 128) (0 : Fin 1)) = m ((c : Thread nD τ).loc main_arg4) (ix1 e) :=
  (bias_blk m c t _).trans ((bias_at m c _).trans ((dif_neg (by dsimp only; omega)).trans
    (congrArg (fun u : Fin 64 => m ((c : Thread nD τ).loc main_arg4) (ix1 u)) (Fin.ext (by dsimp only; omega)))))

/-- The reference's result over the kernel's arguments. -/
abbrev OUT (c : Dev nD) : FVec Ideal S16x64x64 .f32 :=
  Cert.ReferenceIdeal.Run.result (F := Ideal) (m ((c : Thread nD τ).loc main_arg0)) (m ((c : Thread nD τ).loc main_arg1))
      (m ((c : Thread nD τ).loc main_arg2)) (m ((c : Thread nD τ).loc main_arg3)) (m ((c : Thread nD τ).loc main_arg4))

/-- The sequence that is `q` of the block of grid point `t`. -/
def seqOf (t : Fin cfg0.N) (q : Fin 2) : Fin 16 :=
  ⟨t * 2 + q, by have h : t.val < 8 := t.isLt; omega⟩

/-- Where an index of the block of grid point `t` lies in the result array. -/
theorem place (t : Fin cfg0.N) (q : Fin 2) (n e : Fin 64) :
    (((View.whole main_v8).slice (win0_3.rect t)).emb (ix3 q n e) : S16x64x64.Idx) = ix3 (seqOf t q) n e := by
  unfold seqOf
  blk_ext [idx t]

/-- What the body stores at an index of the block is the reference's result where that index lies. -/
theorem point (c : Dev nD) (t : Fin cfg0.N) (q : Fin 2) (n e : Fin 64) :
    k0_pay1 (k0_pay2 (iblk m c 0 t) (iblk m c 1 t) (iblk m c 2 t)) (iota Kind.tc S64x8192 32 [1] iota_S64x8192_d1_w32)
      (Scalar.select (Scalar.cmpi CmpIPredicate.eq 2#32 0#32) 1#32 2#32) k0_pay3 k0_pay4 k0_pay5 (ix3 q n e) =
    OUT m c (((View.whole main_v8).slice (win0_3.rect t)).emb (ix3 q n e)) := by
  refine Eq.trans ?_ (congrArg (OUT m c) (place t q n e)).symm
  rw [OUT, Cert.ReferenceIdeal.Run.result_at, Patch.patch_at, Cert.Spec.pooled, ← Cert.Spec.sup_starts]
  refine Finset.sup_congr rfl fun s _ => ?_
  split_ifs with h
  · rw [Body.gated_at _ _ _ e _ q (n.val * 64 + s.val) (by omega) (by dsimp only; omega),
      Body.row_eq _ _ _ _ q _ _ _ _ e (samples_blk m c t q (seqOf t q) rfl) (weights_first m c t e) (bias_first m c t e),
      Body.row_eq _ _ _ _ q _ _ _ _ e (samples_blk m c t q (seqOf t q) rfl) (weights_second m c t e) (bias_second m c t e)]
    rfl
  · rfl

/-- The kernel's result array is the reference's result over the same arguments. -/
theorem final (c : Dev nD) : (dats m 0 c).arrAt 3 cfg0.N = OUT m c := by
  refine (dats m 0 c).arrAt_eq_of_covers 3 _ (by decide +kernel) fun t _ y => ?_
  blk_simp
  rw [after0_3]; frame_out
  idx_vars y
  exact point m c t _ _ _

end Cert.KernelIdeal.Array

end
-- ==== Proof.lean ====
/- The certificate: the programs run, leave their arguments alone and the machine quiet, and the kernel's result is the
   reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value

public import proofs.«01_k».proof.Proof.Gen.ReferenceIdeal
public import proofs.«01_k».proof.Proof.Array
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- The reference runs, its arguments end as they began, and, declaring no semaphore, it leaves every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Run.run (F := Ideal) m ρ)

/-- Over the extended reals the kernel and the reference, run from equal arguments, end with equal results. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Array.OUT m c, ?_, ?_⟩
  · exact (θ_run Cert.KernelIdeal.defs _ _).mono
      (fun _ h c => ⟨(h c).1.trans (Cert.KernelIdeal.Array.final m c), (h c).2⟩)
      (Cert.KernelIdeal.Value.run_blocks (F := Ideal) m g)
  · refine (θ_run Cert.ReferenceIdeal.defs _ _).mono (fun _ h c => ⟨(h c).1.trans ?_, (h c).2⟩)
      (Cert.ReferenceIdeal.Run.run (F := Ideal) m' g')
    obtain ⟨h0, h1, h2, h3, h4⟩ := hagree c
    rw [h0, h1, h2, h3, h4]

/-- Everything claimed. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
